-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x16 : Shape := ⟨2, ![256, 16]⟩
abbrev S256x256 : Shape := ⟨2, ![256, 256]⟩
abbrev S2x1x3 : Shape := ⟨3, ![2, 1, 3]⟩
abbrev S4x2x3 : Shape := ⟨3, ![4, 2, 3]⟩
abbrev S2x4x3 : Shape := ⟨3, ![2, 4, 3]⟩
abbrev S1x2x3 : Shape := ⟨3, ![1, 2, 3]⟩
abbrev S16x256 : Shape := ⟨2, ![16, 256]⟩
abbrev S4096x1 : Shape := ⟨2, ![4096, 1]⟩
abbrev S1x256 : Shape := ⟨2, ![1, 256]⟩
abbrev S15x256 : Shape := ⟨2, ![15, 256]⟩
abbrev S2x256 : Shape := ⟨2, ![2, 256]⟩
abbrev S14x256 : Shape := ⟨2, ![14, 256]⟩
abbrev S1x1x1 : Shape := ⟨3, ![1, 1, 1]⟩
abbrev S8x16 : Shape := ⟨2, ![8, 16]⟩
abbrev S8x256 : Shape := ⟨2, ![8, 256]⟩
abbrev S7x256 : Shape := ⟨2, ![7, 256]⟩
abbrev S6x256 : Shape := ⟨2, ![6, 256]⟩
abbrev S4x8 : Shape := ⟨2, ![4, 8]⟩
abbrev S4x256 : Shape := ⟨2, ![4, 256]⟩
abbrev S8x4 : Shape := ⟨2, ![8, 4]⟩
abbrev S16x8 : Shape := ⟨2, ![16, 8]⟩

abbrev nBuf : Space → Nat
  | .hbm => 9
  | .vmem => 3
  | .smem => 4
  | _ => 0

abbrev bufTy : (tb : Table) → Fin (tcTables nBuf tb) → BufTy
  | .hbm, ⟨0, _⟩ => ⟨S256x16, .f32⟩
  | .hbm, ⟨1, _⟩ => ⟨S256x256, .f32⟩
  | .hbm, ⟨2, _⟩ => ⟨S2x1x3, .f32⟩
  | .hbm, ⟨3, _⟩ => ⟨S4x2x3, .f32⟩
  | .hbm, ⟨4, _⟩ => ⟨S2x4x3, .f32⟩
  | .hbm, ⟨5, _⟩ => ⟨S1x2x3, .f32⟩
  | .hbm, ⟨6, _⟩ => ⟨S16x256, .f32⟩
  | .hbm, ⟨7, _⟩ => ⟨S16x256, .f32⟩
  | .hbm, ⟨8, _⟩ => ⟨S4096x1, .f32⟩
  | .local _ .vmem, ⟨0, _⟩ => ⟨S16x256, .f32⟩
  | .local _ .vmem, ⟨1, _⟩ => ⟨S256x256, .f32⟩
  | .local _ .vmem, ⟨2, _⟩ => ⟨S16x256, .f32⟩
  | .local _ .smem, ⟨0, _⟩ => ⟨S2x1x3, .f32⟩
  | .local _ .smem, ⟨1, _⟩ => ⟨S4x2x3, .f32⟩
  | .local _ .smem, ⟨2, _⟩ => ⟨S2x4x3, .f32⟩
  | .local _ .smem, ⟨3, _⟩ => ⟨S1x2x3, .f32⟩
  | _, _ => ⟨S256x16, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg6_0 : Ref sig .tc := ⟨.vmem, 2, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2x1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S4x2x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2x4x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x2x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S256x16 : Shape := ⟨2, ![256, 16]⟩
abbrev S256x256 : Shape := ⟨2, ![256, 256]⟩
abbrev S2x1x3 : Shape := ⟨3, ![2, 1, 3]⟩
abbrev S4x2x3 : Shape := ⟨3, ![4, 2, 3]⟩
abbrev S2x4x3 : Shape := ⟨3, ![2, 4, 3]⟩
abbrev S1x2x3 : Shape := ⟨3, ![1, 2, 3]⟩
abbrev S16x16 : Shape := ⟨2, ![16, 16]⟩
abbrev S8x8 : Shape := ⟨2, ![8, 8]⟩
abbrev S16x256 : Shape := ⟨2, ![16, 256]⟩
abbrev S4096x1 : Shape := ⟨2, ![4096, 1]⟩
abbrev S16x1x16x1 : Shape := ⟨4, ![16, 1, 16, 1]⟩
abbrev S1x256x1x256 : Shape := ⟨4, ![1, 256, 1, 256]⟩
abbrev S16x256x16x256 : Shape := ⟨4, ![16, 256, 16, 256]⟩
abbrev S4096x4096 : Shape := ⟨2, ![4096, 4096]⟩
abbrev S_ : Shape := ⟨0, ![]⟩
abbrev S1x4096x1 : Shape := ⟨3, ![1, 4096, 1]⟩
abbrev S3x4096x1 : Shape := ⟨3, ![3, 4096, 1]⟩
abbrev S4096x2 : Shape := ⟨2, ![4096, 2]⟩
abbrev S16x256x2 : Shape := ⟨3, ![16, 256, 2]⟩
abbrev S8x2x256x2 : Shape := ⟨4, ![8, 2, 256, 2]⟩
abbrev S8x256x2 : Shape := ⟨3, ![8, 256, 2]⟩
abbrev S2048x2 : Shape := ⟨2, ![2048, 2]⟩
abbrev S8x1x8x1 : Shape := ⟨4, ![8, 1, 8, 1]⟩
abbrev S8x256x8x256 : Shape := ⟨4, ![8, 256, 8, 256]⟩
abbrev S2048x2048 : Shape := ⟨2, ![2048, 2048]⟩
abbrev S1x2048x2 : Shape := ⟨3, ![1, 2048, 2]⟩
abbrev S3x2048x2 : Shape := ⟨3, ![3, 2048, 2]⟩
abbrev S2048x4 : Shape := ⟨2, ![2048, 4]⟩
abbrev S8x256x4 : Shape := ⟨3, ![8, 256, 4]⟩
abbrev S4x2x256x4 : Shape := ⟨4, ![4, 2, 256, 4]⟩
abbrev S4x256x4 : Shape := ⟨3, ![4, 256, 4]⟩
abbrev S1024x4 : Shape := ⟨2, ![1024, 4]⟩
abbrev S4x1x256x4 : Shape := ⟨4, ![4, 1, 256, 4]⟩
abbrev S1x2048x4 : Shape := ⟨3, ![1, 2048, 4]⟩
abbrev S3x2048x4 : Shape := ⟨3, ![3, 2048, 4]⟩
abbrev S8x1x256x2 : Shape := ⟨4, ![8, 1, 256, 2]⟩
abbrev S1x4096x2 : Shape := ⟨3, ![1, 4096, 2]⟩
abbrev S3x4096x2 : Shape := ⟨3, ![3, 4096, 2]⟩

abbrev nBuf : Space → Nat
  | .hbm => 136
  | .vmem => 0
  | .smem => 0
  | _ => 0

abbrev hbmTy0_0 (i : Nat) : BufTy := match i % 128 with
  | 0 => ⟨S256x16, .f32⟩
  | 1 => ⟨S256x256, .f32⟩
  | 2 => ⟨S2x1x3, .f32⟩
  | 3 => ⟨S4x2x3, .f32⟩
  | 4 => ⟨S2x4x3, .f32⟩
  | 5 => ⟨S1x2x3, .f32⟩
  | 6 => ⟨S16x16, .f32⟩
  | 7 => ⟨S8x8, .f32⟩
  | 8 => ⟨S8x8, .f32⟩
  | 9 => ⟨S16x16, .f32⟩
  | 10 => ⟨S16x256, .f32⟩
  | 11 => ⟨S4096x1, .f32⟩
  | 12 => ⟨S16x1x16x1, .f32⟩
  | 13 => ⟨S1x256x1x256, .f32⟩
  | 14 => ⟨S16x256x16x256, .f32⟩
  | 15 => ⟨S16x256x16x256, .f32⟩
  | 16 => ⟨S16x256x16x256, .f32⟩
  | 17 => ⟨S4096x4096, .f32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S4096x4096, .i1⟩
  | 24 => ⟨S4096x4096, .f32⟩
  | 25 => ⟨S4096x4096, .f32⟩
  | 26 => ⟨S4096x1, .f32⟩
  | 27 => ⟨S4096x1, .f32⟩
  | 28 => ⟨S4096x1, .f32⟩
  | 29 => ⟨S1x4096x1, .f32⟩
  | 30 => ⟨S1x4096x1, .f32⟩
  | 31 => ⟨S1x4096x1, .f32⟩
  | 32 => ⟨S3x4096x1, .f32⟩
  | 33 => ⟨S4096x2, .f32⟩
  | 34 => ⟨S16x256x2, .f32⟩
  | 35 => ⟨S8x2x256x2, .f32⟩
  | 36 => ⟨S_, .f32⟩
  | 37 => ⟨S8x256x2, .f32⟩
  | 38 => ⟨S2048x2, .f32⟩
  | 39 => ⟨S_, .f32⟩
  | 40 => ⟨S2048x2, .f32⟩
  | 41 => ⟨S2048x2, .f32⟩
  | 42 => ⟨S8x1x8x1, .f32⟩
  | 43 => ⟨S1x256x1x256, .f32⟩
  | 44 => ⟨S8x256x8x256, .f32⟩
  | 45 => ⟨S8x256x8x256, .f32⟩
  | 46 => ⟨S8x256x8x256, .f32⟩
  | 47 => ⟨S2048x2048, .f32⟩
  | 48 => ⟨S2048x2048, .i32⟩
  | 49 => ⟨S2048x2048, .i32⟩
  | 50 => ⟨S_, .i32⟩
  | 51 => ⟨S2048x2048, .i32⟩
  | 52 => ⟨S2048x2048, .i32⟩
  | 53 => ⟨S2048x2048, .i1⟩
  | 54 => ⟨S2048x2048, .f32⟩
  | 55 => ⟨S2048x2048, .f32⟩
  | 56 => ⟨S2048x2, .f32⟩
  | 57 => ⟨S2048x2, .f32⟩
  | 58 => ⟨S2048x2, .f32⟩
  | 59 => ⟨S1x2048x2, .f32⟩
  | 60 => ⟨S1x2048x2, .f32⟩
  | 61 => ⟨S1x2048x2, .f32⟩
  | 62 => ⟨S3x2048x2, .f32⟩
  | 63 => ⟨S2048x4, .f32⟩
  | 64 => ⟨S8x256x4, .f32⟩
  | 65 => ⟨S4x2x256x4, .f32⟩
  | 66 => ⟨S_, .f32⟩
  | 67 => ⟨S4x256x4, .f32⟩
  | 68 => ⟨S1024x4, .f32⟩
  | 69 => ⟨S_, .f32⟩
  | 70 => ⟨S1024x4, .f32⟩
  | 71 => ⟨S1024x4, .f32⟩
  | 72 => ⟨S4x256x4, .f32⟩
  | 73 => ⟨S_, .f32⟩
  | 74 => ⟨S4x256x4, .f32⟩
  | 75 => ⟨S4x1x256x4, .f32⟩
  | 76 => ⟨S4x1x256x4, .f32⟩
  | 77 => ⟨S4x2x256x4, .f32⟩
  | 78 => ⟨S2048x4, .f32⟩
  | 79 => ⟨S_, .f32⟩
  | 80 => ⟨S2048x4, .f32⟩
  | 81 => ⟨S2048x4, .f32⟩
  | 82 => ⟨S8x1x8x1, .f32⟩
  | 83 => ⟨S1x256x1x256, .f32⟩
  | 84 => ⟨S8x256x8x256, .f32⟩
  | 85 => ⟨S8x256x8x256, .f32⟩
  | 86 => ⟨S8x256x8x256, .f32⟩
  | 87 => ⟨S2048x2048, .f32⟩
  | 88 => ⟨S2048x2048, .i32⟩
  | 89 => ⟨S2048x2048, .i32⟩
  | 90 => ⟨S_, .i32⟩
  | 91 => ⟨S2048x2048, .i32⟩
  | 92 => ⟨S2048x2048, .i32⟩
  | 93 => ⟨S2048x2048, .i1⟩
  | 94 => ⟨S2048x2048, .f32⟩
  | 95 => ⟨S2048x2048, .f32⟩
  | 96 => ⟨S2048x4, .f32⟩
  | 97 => ⟨S2048x4, .f32⟩
  | 98 => ⟨S2048x4, .f32⟩
  | 99 => ⟨S1x2048x4, .f32⟩
  | 100 => ⟨S1x2048x4, .f32⟩
  | 101 => ⟨S1x2048x4, .f32⟩
  | 102 => ⟨S3x2048x4, .f32⟩
  | 103 => ⟨S2048x2, .f32⟩
  | 104 => ⟨S8x256x2, .f32⟩
  | 105 => ⟨S_, .f32⟩
  | 106 => ⟨S8x256x2, .f32⟩
  | 107 => ⟨S8x1x256x2, .f32⟩
  | 108 => ⟨S8x1x256x2, .f32⟩
  | 109 => ⟨S8x2x256x2, .f32⟩
  | 110 => ⟨S4096x2, .f32⟩
  | 111 => ⟨S_, .f32⟩
  | 112 => ⟨S4096x2, .f32⟩
  | 113 => ⟨S4096x2, .f32⟩
  | 114 => ⟨S16x1x16x1, .f32⟩
  | 115 => ⟨S1x256x1x256, .f32⟩
  | 116 => ⟨S16x256x16x256, .f32⟩
  | 117 => ⟨S16x256x16x256, .f32⟩
  | 118 => ⟨S16x256x16x256, .f32⟩
  | 119 => ⟨S4096x4096, .f32⟩
  | 120 => ⟨S4096x4096, .i32⟩
  | 121 => ⟨S4096x4096, .i32⟩
  | 122 => ⟨S_, .i32⟩
  | 123 => ⟨S4096x4096, .i32⟩
  | 124 => ⟨S4096x4096, .i32⟩
  | 125 => ⟨S4096x4096, .i1⟩
  | 126 => ⟨S4096x4096, .f32⟩
  | 127 => ⟨S4096x4096, .f32⟩
  | _ => ⟨S256x16, .f32⟩

abbrev hbmTy0_1 (i : Nat) : BufTy := match i % 128 with
  | 0 => ⟨S4096x2, .f32⟩
  | 1 => ⟨S4096x2, .f32⟩
  | 2 => ⟨S4096x2, .f32⟩
  | 3 => ⟨S1x4096x2, .f32⟩
  | 4 => ⟨S1x4096x2, .f32⟩
  | 5 => ⟨S1x4096x2, .f32⟩
  | 6 => ⟨S3x4096x2, .f32⟩
  | 7 => ⟨S4096x1, .f32⟩
  | _ => ⟨S256x16, .f32⟩

abbrev hbmTy (i : Nat) : BufTy := match i / 128 with
  | 0 => hbmTy0_0 i
  | 1 => hbmTy0_1 i
  | _ => ⟨S256x16, .f32⟩

abbrev bufTy : (tb : Table) → Fin (tcTables nBuf tb) → BufTy
  | .hbm, ⟨i, _⟩ => hbmTy i
  | _, _ => ⟨S256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_call1_cst : Ref sig .tc := ⟨.hbm, 39, rfl⟩
abbrev main_call1_v0 : Ref sig .tc := ⟨.hbm, 40, rfl⟩
abbrev main_v22 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_call3_cst : Ref sig .tc := ⟨.hbm, 69, rfl⟩
abbrev main_call3_v0 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call4_cst : Ref sig .tc := ⟨.hbm, 79, rfl⟩
abbrev main_call4_v0 : Ref sig .tc := ⟨.hbm, 80, rfl⟩
abbrev main_v50 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_7 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_8 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call6_cst : Ref sig .tc := ⟨.hbm, 111, rfl⟩
abbrev main_call6_v0 : Ref sig .tc := ⟨.hbm, 112, rfl⟩
abbrev main_v73 : Ref sig .tc := ⟨.hbm, 113, rfl⟩
abbrev main_call7_v0 : Ref sig .tc := ⟨.hbm, 114, rfl⟩
abbrev main_call7_v1 : Ref sig .tc := ⟨.hbm, 115, rfl⟩
abbrev main_call7_v2 : Ref sig .tc := ⟨.hbm, 116, rfl⟩
abbrev main_call7_v3 : Ref sig .tc := ⟨.hbm, 117, rfl⟩
abbrev main_call7_v4 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_9 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩

abbrev nD : Nat := 1
abbrev τ : Topo := Topo.v7x

variable {F : FTy → Type} [FloatOps F]
-- ==== Proof.Spec.lean ====
module

public import Mathlib.Data.EReal.Operations
public import Mathlib.Algebra.BigOperators.Fin

/-! The spatio-temporal autoencoder written on frames: what both programs compute, with no array
layout in it. A signal is a list of frames in time, and a frame has one number per graph node. -/

@[expose] public section
noncomputable section
namespace Autoencoder

/-- One channel of a signal: `T` frames in time, each with a number at each of 256 graph nodes. -/
abbrev Frames (T : ℕ) := Fin T → Fin 256 → EReal

/-- A shift operator on the graph: its entry at a target node and a source node. -/
abbrev Graph := Fin 256 → Fin 256 → EReal

/-- The frame before `t`, the last frame coming before the first one. -/
def prev {T : ℕ} (t : Fin T) : Fin T := ⟨((t : ℕ) + (T - 1)) % T, Nat.mod_lt _ t.pos⟩

/-- The graph shift applied twice. -/
def twice (A : Graph) : Graph := fun n j => ∑ l, A n l * A l j

/-- The signal moved one frame on in time and, with it, one step on the graph. -/
def step (A : Graph) {T : ℕ} (z : Frames T) : Frames T := fun t n => ∑ j, A n j * z (prev t) j

/-- The signal moved two frames on in time and two steps on the graph. -/
def step2 (A : Graph) {T : ℕ} (z : Frames T) : Frames T :=
  fun t n => ∑ j, twice A n j * z (prev (prev t)) j

/-- The three taps of the filter: the signal, moved by no, one and two spatio-temporal steps. -/
def tap (A : Graph) {T : ℕ} (z : Frames T) : Fin 3 → Frames T := ![z, step A z, step2 A z]

/-- The graph convolution: each output channel is the sum of all taps of all input channels, each
multiplied by its coefficient. -/
def conv (A : Graph) {T I O : ℕ} (h : Fin O → Fin I → Fin 3 → EReal) (z : Fin I → Frames T) :
    Fin O → Frames T :=
  fun o t n => ∑ i, ∑ k, tap A (z i) k t n * h o i k

/-- The larger of a number and zero, at each frame and node. -/
def relu {T : ℕ} (z : Frames T) : Frames T := fun t n => max (z t n) 0

/-- Half as many frames: of each pair of neighbours the larger number. -/
def pool {T U : ℕ} (h : 2 * T = U) (z : Frames U) : Frames T :=
  fun t n => max (z ⟨2 * t, by omega⟩ n) (z ⟨2 * t + 1, by omega⟩ n)

/-- Twice as many frames: a frame of zeros after each frame. -/
def spread {T U : ℕ} (h : 2 * T = U) (z : Frames T) : Frames U :=
  fun t n => if (t : ℕ) % 2 = 0 then z ⟨t / 2, by omega⟩ n else 0

/-- The first encoder layer: one channel of 16 frames to two channels of 8. -/
def enc0 (A : Graph) (h : Fin 2 → Fin 1 → Fin 3 → EReal) (x : Frames 16) : Fin 2 → Frames 8 :=
  fun o => relu (pool rfl (conv A h (fun _ => x) o))

/-- The second encoder layer: two channels of 8 frames to four channels of 4. -/
def enc1 (A : Graph) (h : Fin 4 → Fin 2 → Fin 3 → EReal) (z : Fin 2 → Frames 8) : Fin 4 → Frames 4 :=
  fun o => relu (pool rfl (conv A h z o))

/-- The first decoder layer: four channels of 4 frames to two channels of 8. -/
def dec0 (A : Graph) (h : Fin 2 → Fin 4 → Fin 3 → EReal) (z : Fin 4 → Frames 4) : Fin 2 → Frames 8 :=
  conv A h fun i => relu (spread rfl (z i))

/-- The second decoder layer: two channels of 8 frames to one channel of 16. -/
def dec1 (A : Graph) (h : Fin 1 → Fin 2 → Fin 3 → EReal) (z : Fin 2 → Frames 8) : Frames 16 :=
  conv A h (fun i => relu (spread rfl (z i))) 0

/-- The autoencoder: two encoder layers, then two decoder layers. -/
def autoencoder (A : Graph) (h0 : Fin 2 → Fin 1 → Fin 3 → EReal) (h1 : Fin 4 → Fin 2 → Fin 3 → EReal)
    (h2 : Fin 2 → Fin 4 → Fin 3 → EReal) (h3 : Fin 1 → Fin 2 → Fin 3 → EReal) (x : Frames 16) :
    Frames 16 :=
  dec1 A h3 (dec0 A h2 (enc1 A h1 (enc0 A h0 x)))

/-- A convolution of one channel, its sum written out. -/
theorem conv_one (A : Graph) {T O : ℕ} (h : Fin O → Fin 1 → Fin 3 → EReal) (z : Fin 1 → Frames T)
    (o : Fin O) (t : Fin T) (n : Fin 256) :
    conv A h z o t n = z 0 t n * h o 0 0 + step A (z 0) t n * h o 0 1 + step2 A (z 0) t n * h o 0 2 := by
  simp [conv, tap, Fin.sum_univ_succ, add_assoc]

/-- A convolution of two channels, its sum written out. -/
theorem conv_two (A : Graph) {T O : ℕ} (h : Fin O → Fin 2 → Fin 3 → EReal) (z : Fin 2 → Frames T)
    (o : Fin O) (t : Fin T) (n : Fin 256) :
    conv A h z o t n = z 0 t n * h o 0 0 + step A (z 0) t n * h o 0 1 + step2 A (z 0) t n * h o 0 2
      + z 1 t n * h o 1 0 + step A (z 1) t n * h o 1 1 + step2 A (z 1) t n * h o 1 2 := by
  simp [conv, tap, Fin.sum_univ_succ, add_assoc]

/-- A convolution of four channels, its sum written out. -/
theorem conv_four (A : Graph) {T O : ℕ} (h : Fin O → Fin 4 → Fin 3 → EReal) (z : Fin 4 → Frames T)
    (o : Fin O) (t : Fin T) (n : Fin 256) :
    conv A h z o t n = z 0 t n * h o 0 0 + step A (z 0) t n * h o 0 1 + step2 A (z 0) t n * h o 0 2
      + z 1 t n * h o 1 0 + step A (z 1) t n * h o 1 1 + step2 A (z 1) t n * h o 1 2
      + z 2 t n * h o 2 0 + step A (z 2) t n * h o 2 1 + step2 A (z 2) t n * h o 2 2
      + z 3 t n * h o 3 0 + step A (z 3) t n * h o 3 1 + step2 A (z 3) t n * h o 3 2 := by
  simp only [conv, Fin.sum_univ_four, Fin.sum_univ_three, tap, Matrix.cons_val, add_assoc]

end Autoencoder
-- ==== Proof.KernelOps.lean ====
module

public import proofs.«01_k».proof.Defs
public import proofs.«01_k».proof.Proof.Gen.KernelIdeal.Skeleton
public import Idealize.ShloMosaic.Lib.Pointwise
public import proofs.«01_k».proof.Proof.Spec

/-! The values of the kernel body, one at a time, read as frames: a stored tap is a step of the
signal, a selection matrix picks or spreads frames, a chain of products and sums is part of a
convolution. -/

@[expose] public section
set_option maxRecDepth 16384
noncomputable section
namespace Cert.Proof
open Idealize.ShloMosaic Idealize.ShloMosaic.TcCoe Cert.KernelIdeal Cert.KernelIdeal.Gen Autoencoder

/-- A 16-frame array of the kernel as frames. -/
def frames16 {φ : FTy} (v : FVec Ideal S16x256 φ) : Frames 16 := fun t n => v (ix2 t n)

/-- An 8-frame array of the kernel as frames. -/
def frames8 {φ : FTy} (v : FVec Ideal S8x256 φ) : Frames 8 := fun t n => v (ix2 t n)

/-- The kernel's shift operator as a graph. -/
def graph (v : FVec Ideal S256x256 .f32) : Graph := fun n j => v (ix2 n j)

/-- The square of the shift operator that the kernel forms is the graph applied twice. -/
theorem pay2_eq (s : FVec Ideal S256x256 .f32) : graph (k0_pay2 (F := Ideal) s) = twice (graph s) := by
  funext n j
  show k0_pay2 (F := Ideal) s (ix2 n j) = ∑ l, s (ix2 n l) * s (ix2 l j)
  pointwise [k0_pay2]

/-! ### Steps in time -/

/-- The frame before one of 16, as the kernel's rotation by one finds it. -/
theorem prev16 (t : Fin 16) : prev t = if h : (t : ℕ) < 1 then ⟨15 + t, by omega⟩ else ⟨t - 1, by omega⟩ := by
  fin_cases t <;> rfl

/-- The frame two before one of 16, as the kernel's rotation by two finds it. -/
theorem prev16' (t : Fin 16) :
    prev (prev t) = if h : (t : ℕ) < 2 then ⟨14 + t, by omega⟩ else ⟨t - 2, by omega⟩ := by
  fin_cases t <;> rfl

/-- The frame before one of 8, as the kernel's rotation by one finds it. -/
theorem prev8 (t : Fin 8) : prev t = if h : (t : ℕ) < 1 then ⟨7 + t, by omega⟩ else ⟨t - 1, by omega⟩ := by
  fin_cases t <;> rfl

/-- The frame two before one of 8, as the kernel's rotation by two finds it. -/
theorem prev8' (t : Fin 8) :
    prev (prev t) = if h : (t : ℕ) < 2 then ⟨6 + t, by omega⟩ else ⟨t - 2, by omega⟩ := by
  fin_cases t <;> rfl

/-- A step of 16 frames, in the kernel's order of factors. -/
theorem step16_apply (A : Graph) (z : Frames 16) (t : Fin 16) (n : Fin 256) :
    step A z t n = if h : (t : ℕ) < 1 then ∑ j, z ⟨15 + t, by omega⟩ j * A n j
      else ∑ j, z ⟨t - 1, by omega⟩ j * A n j := by
  simp only [step, prev16, mul_comm (A n _)]
  split <;> rfl

/-- Two steps of 16 frames, in the kernel's order of factors. -/
theorem step216_apply (A : Graph) (z : Frames 16) (t : Fin 16) (n : Fin 256) :
    step2 A z t n = if h : (t : ℕ) < 2 then ∑ j, z ⟨14 + t, by omega⟩ j * twice A n j
      else ∑ j, z ⟨t - 2, by omega⟩ j * twice A n j := by
  simp only [step2, prev16', mul_comm (twice A n _)]
  split <;> rfl

/-- A step of 8 frames, in the kernel's order of factors. -/
theorem step8_apply (A : Graph) (z : Frames 8) (t : Fin 8) (n : Fin 256) :
    step A z t n = if h : (t : ℕ) < 1 then ∑ j, z ⟨7 + t, by omega⟩ j * A n j
      else ∑ j, z ⟨t - 1, by omega⟩ j * A n j := by
  simp only [step, prev8, mul_comm (A n _)]
  split <;> rfl

/-- Two steps of 8 frames, in the kernel's order of factors. -/
theorem step28_apply (A : Graph) (z : Frames 8) (t : Fin 8) (n : Fin 256) :
    step2 A z t n = if h : (t : ℕ) < 2 then ∑ j, z ⟨6 + t, by omega⟩ j * twice A n j
      else ∑ j, z ⟨t - 2, by omega⟩ j * twice A n j := by
  simp only [step2, prev8', mul_comm (twice A n _)]
  split <;> rfl

/-- The kernel reads its input once more in the same shape, which changes nothing. -/
theorem pay3_eq (x : Vec Ideal S16x256 .f32) : k0_pay3 (F := Ideal) x = x := by
  funext y
  idx_vars y
  pointwise [k0_pay3]

/-- The first tap of the input. -/
theorem pay5_eq (s : FVec Ideal S256x256 .f32) (x : Vec Ideal S16x256 .f32) :
    frames16 (k0_pay5 (F := Ideal) s x) = step (graph s) (frames16 (φ := .f32) x) := by
  funext t n
  rw [step16_apply]
  show k0_pay5 (F := Ideal) s x (ix2 t n) = _
  pointwise [k0_pay5, k0_pay3]
  rfl

/-- The second tap of the input. -/
theorem pay6_eq (s : FVec Ideal S256x256 .f32) (x : Vec Ideal S16x256 .f32) :
    frames16 (k0_pay6 (F := Ideal) s x) = step2 (graph s) (frames16 (φ := .f32) x) := by
  funext t n
  rw [step216_apply, ← pay2_eq]
  show k0_pay6 (F := Ideal) s x (ix2 t n) = _
  pointwise [k0_pay6, k0_pay3]
  rfl

/-- The first tap of an 8-frame channel. -/
theorem pay39_eq (s : FVec Ideal S256x256 .f32) (x : FVec Ideal S8x256 .f32) :
    frames8 (k0_pay39 (F := Ideal) s x) = step (graph s) (frames8 x) := by
  funext t n
  rw [step8_apply]
  show k0_pay39 (F := Ideal) s x (ix2 t n) = _
  pointwise [k0_pay39]
  rfl

theorem pay40_eq (s : FVec Ideal S256x256 .f32) (x : FVec Ideal S8x256 .f32) :
    frames8 (k0_pay40 (F := Ideal) s x) = step (graph s) (frames8 x) := pay39_eq s x

/-- The second tap of an 8-frame channel, from the square of the shift operator. -/
theorem pay43_eq (s : FVec Ideal S256x256 .f32) (x : FVec Ideal S8x256 .f32) :
    frames8 (k0_pay43 (F := Ideal) (k0_pay2 (F := Ideal) s) x) = step2 (graph s) (frames8 x) := by
  funext t n
  rw [step28_apply, ← pay2_eq]
  show k0_pay43 (F := Ideal) _ x (ix2 t n) = _
  generalize k0_pay2 (F := Ideal) s = s2
  pointwise [k0_pay43]
  rfl

/-! ### Pooling and spreading -/

/-- A comparison bit, widened and converted, is one or zero. -/
theorem bit_apply (b : Bool) :
    FloatOps.sitofp (F := Ideal) .f32 (BitVec.setWidth 32 (BitVec.ofBool b)) = if b then (1 : EReal) else 0 := by
  cases b
  · show (((BitVec.setWidth 32 (BitVec.ofBool false)).toInt : ℝ) : EReal) = 0
    simp
  · show (((BitVec.setWidth 32 (BitVec.ofBool true)).toInt : ℝ) : EReal) = 1
    simp

/-- The 8-by-16 selection matrix has its ones at twice the row. -/
theorem pay9_apply (r : Fin 8) (c : Fin 16) :
    k0_pay9 (F := Ideal) (ix2 r c) = if (c : ℕ) = 2 * r then (1 : EReal) else 0 := by
  pointwise [k0_pay9]
  have h : ∀ (r : Fin 8) (c : Fin 16), IntOp.cmpi .eq (BitVec.ofNat 32 c) (IntOp.muli 2#32 (BitVec.ofNat 32 r))
      = BitVec.ofBool (decide ((c : ℕ) = 2 * r)) := by decide
  rw [h, bit_apply]
  simp

/-- The 4-by-8 selection matrix has its ones at twice the row. -/
theorem pay27_apply (r : Fin 4) (c : Fin 8) :
    k0_pay27 (F := Ideal) (ix2 r c) = if (c : ℕ) = 2 * r then (1 : EReal) else 0 := by
  pointwise [k0_pay27]
  have h : ∀ (r : Fin 4) (c : Fin 8), IntOp.cmpi .eq (BitVec.ofNat 32 c) (IntOp.muli 2#32 (BitVec.ofNat 32 r))
      = BitVec.ofBool (decide ((c : ℕ) = 2 * r)) := by decide
  rw [h, bit_apply]
  simp

/-- The 8-by-4 spreading matrix has its ones where the row is twice the column. -/
theorem pay29_apply (r : Fin 8) (c : Fin 4) :
    k0_pay29 (F := Ideal) (ix2 r c) = if (r : ℕ) = 2 * c then (1 : EReal) else 0 := by
  pointwise [k0_pay29]
  have h : ∀ (r : Fin 8) (c : Fin 4), IntOp.cmpi .eq (BitVec.ofNat 32 r) (IntOp.muli 2#32 (BitVec.ofNat 32 c))
      = BitVec.ofBool (decide ((r : ℕ) = 2 * c)) := by decide
  rw [h, bit_apply]
  simp

/-- The 16-by-8 spreading matrix has its ones where the row is twice the column. -/
theorem pay55_apply (r : Fin 16) (c : Fin 8) :
    k0_pay55 (F := Ideal) (ix2 r c) = if (r : ℕ) = 2 * c then (1 : EReal) else 0 := by
  pointwise [k0_pay55]
  have h : ∀ (r : Fin 16) (c : Fin 8), IntOp.cmpi .eq (BitVec.ofNat 32 r) (IntOp.muli 2#32 (BitVec.ofNat 32 c))
      = BitVec.ofBool (decide ((r : ℕ) = 2 * c)) := by decide
  rw [h, bit_apply]
  simp

/-- The pooled and cut-off first channel of the first layer. -/
theorem pay10_eq (v : FVec Ideal S16x256 .f32) :
    frames8 (k0_pay10 (F := Ideal) v) = relu (pool rfl (frames16 v)) := by
  funext t n
  show k0_pay10 (F := Ideal) v (ix2 t n) = max (max (v (ix2 _ n)) (v (ix2 _ n))) 0
  pointwise [k0_pay10]
  simp only [pay9_apply]
  fin_cases t <;> simp [Fin.sum_univ_succ]

/-- The pooled and cut-off second channel of the first layer, from its three terms. -/
theorem pay11_eq (a b c : FVec Ideal S16x256 .f32) (p q : Ideal .f32) :
    frames8 (k0_pay11 (F := Ideal) a b c p q)
      = relu (pool rfl fun t n => frames16 c t n + frames16 a t n * p + frames16 b t n * q) := by
  have h : k0_pay11 (F := Ideal) a b c p q
      = k0_pay10 (F := Ideal) (fun y => c y + a y * p + b y * q) := rfl
  rw [h, pay10_eq]
  rfl

/-- Pooled, cut off, spread again and cut off: a channel between the second and the third layer. -/
theorem pay31_eq (v : FVec Ideal S8x256 .f32) :
    frames8 (k0_pay31 (F := Ideal) v (k0_pay27 (F := Ideal)))
      = relu (spread (T := 4) rfl (relu (pool rfl (frames8 v)))) := by
  funext t n
  show k0_pay31 (F := Ideal) v _ (ix2 t n)
    = max (if _ : (t : ℕ) % 2 = 0 then max (max (v (ix2 _ n)) (v (ix2 _ n))) 0 else 0) 0
  pointwise [k0_pay31]
  simp only [pay27_apply, pay29_apply]
  fin_cases t <;> simp [Fin.sum_univ_succ]

/-- A channel spread to 16 frames and cut off. -/
theorem pay56_eq (v : FVec Ideal S8x256 .f32) :
    frames16 (k0_pay56 (F := Ideal) v) = relu (spread rfl (frames8 v)) := by
  funext t n
  show k0_pay56 (F := Ideal) v (ix2 t n) = max (if _ : (t : ℕ) % 2 = 0 then v (ix2 _ n) else 0) 0
  pointwise [k0_pay56]
  simp only [pay55_apply]
  fin_cases t <;> simp [Fin.sum_univ_succ]

end Cert.Proof
-- ==== Proof.KernelLayers.lean ====
module

public import proofs.«01_k».proof.Proof.KernelOps

/-! What the kernel body stores, as one value of its six inputs, and that this value is the
autoencoder of those inputs. -/

@[expose] public section
set_option maxRecDepth 16384
noncomputable section
namespace Cert.Proof
open Idealize.ShloMosaic Idealize.ShloMosaic.TcCoe Cert.KernelIdeal Cert.KernelIdeal.Gen Autoencoder

/-- The stored value, in the order in which the body forms its values: the two channels of the first
layer, the four of the second, the two of the third and the one of the fourth, each with its taps. -/
def stored (x : Vec Ideal S16x256 .f32) (s : FVec Ideal S256x256 .f32)
    (h0 : Fin 2 → Fin 1 → Fin 3 → Ideal .f32) (h1 : Fin 4 → Fin 2 → Fin 3 → Ideal .f32)
    (h2 : Fin 2 → Fin 4 → Fin 3 → Ideal .f32) (h3 : Fin 1 → Fin 2 → Fin 3 → Ideal .f32) :
    FVec Ideal S16x256 .f32 :=
  let v1 := k0_pay2 (F := Ideal) s
  let v11 := k0_pay5 (F := Ideal) s x
  let v17 := k0_pay6 (F := Ideal) s x
  let v34 := k0_pay7 (F := Ideal) s x (h0 0 0 0) (h0 0 0 1) (h0 0 0 2)
  let v39 := k0_pay8 (F := Ideal) x (h0 1 0 0)
  let v70 := k0_pay10 (F := Ideal) v34
  let v72 := k0_pay11 (F := Ideal) v11 v17 v39 (h0 1 0 1) (h0 1 0 2)
  let v74 := k0_pay12 (F := Ideal) v34
  let v76 := k0_pay13 (F := Ideal) v11 v17 v39 (h0 1 0 1) (h0 1 0 2)
  let v82 := k0_pay14 (F := Ideal) s v34
  let v87 := k0_pay15 (F := Ideal) s v11 v17 v39 (h0 1 0 1) (h0 1 0 2)
  let v88 := k0_pay16 (F := Ideal) v87
  let v94 := k0_pay17 (F := Ideal) v1 v70
  let v100 := k0_pay18 (F := Ideal) v1 v72
  let v129 := k0_pay19 (F := Ideal) v1 v70 v74 v76 v82 v87 (h1 0 0 0) (h1 0 0 1) (h1 0 0 2) (h1 0 1 0) (h1 0 1 1)
  let v135 := k0_pay20 (F := Ideal) v100 v129 (h1 0 1 2)
  let v164 := k0_pay21 (F := Ideal) v74 v76 v82 v88 v94 (h1 1 0 0) (h1 1 0 1) (h1 1 0 2) (h1 1 1 0) (h1 1 1 1)
  let v169 := k0_pay22 (F := Ideal) v100 (h1 1 1 2)
  let v170 := k0_pay23 (F := Ideal) v164 v169
  let v205 := k0_pay24 (F := Ideal) v74 v76 v82 v88 v94 v100 (h1 2 0 0) (h1 2 0 1) (h1 2 0 2) (h1 2 1 0) (h1 2 1 1) (h1 2 1 2)
  let v208 := k0_pay25 (F := Ideal) (h1 3 0 0)
  let v240 := k0_pay26 (F := Ideal) v74 v76 v82 v88 v94 v100 v208 (h1 3 0 1) (h1 3 0 2) (h1 3 1 0) (h1 3 1 1) (h1 3 1 2)
  let v247 := k0_pay27 (F := Ideal)
  let v251 := k0_pay28 (F := Ideal) v135
  let v288 := k0_pay30 (F := Ideal) v247 v251 (constant S4x256 .f32 0x00000000#32)
  let v290 := k0_pay31 (F := Ideal) v170 v247
  let v292 := k0_pay32 (F := Ideal) v205 v247
  let v294 := k0_pay33 (F := Ideal) v240 v247
  let v295 := k0_pay34 (F := Ideal) v247 v251 (constant S4x256 .f32 0x00000000#32)
  let v296 := k0_pay35 (F := Ideal) v295
  let v298 := k0_pay36 (F := Ideal) v290
  let v300 := k0_pay37 (F := Ideal) v292
  let v302 := k0_pay38 (F := Ideal) v294
  let v308 := k0_pay39 (F := Ideal) s v288
  let v314 := k0_pay40 (F := Ideal) s v290
  let v320 := k0_pay41 (F := Ideal) s v292
  let v326 := k0_pay42 (F := Ideal) s v294
  let v332 := k0_pay43 (F := Ideal) v1 v288
  let v338 := k0_pay44 (F := Ideal) v1 v290
  let v344 := k0_pay45 (F := Ideal) v1 v292
  let v346 := k0_pay47 (F := Ideal) v1 v294
  let v347 := k0_pay48 (F := Ideal) v1 v294
  let v350 := k0_pay49 (F := Ideal) v346 v347
  let v385 := k0_pay50 (F := Ideal) v296 v298 v308 v314 v332 v338 (h2 0 0 0) (h2 0 0 1) (h2 0 0 2) (h2 0 1 0) (h2 0 1 1) (h2 0 1 2)
  let v421 := k0_pay51 (F := Ideal) v300 v302 v320 v326 v344 v350 v385 (h2 0 2 0) (h2 0 2 1) (h2 0 2 2) (h2 0 3 0) (h2 0 3 1) (h2 0 3 2)
  let v426 := k0_pay52 (F := Ideal) v296 (h2 1 0 0)
  let v462 := k0_pay53 (F := Ideal) v298 v300 v308 v314 v332 v338 v426 (h2 1 0 1) (h2 1 0 2) (h2 1 1 0) (h2 1 1 1) (h2 1 1 2) (h2 1 2 0)
  let v467 := k0_pay54 (F := Ideal) v320 (h2 1 2 1)
  let v503 := k0_pay56 (F := Ideal) v421
  let v505 := k0_pay57 (F := Ideal) v302 v326 v344 v350 v462 v467 (h2 1 2 2) (h2 1 3 0) (h2 1 3 1) (h2 1 3 2)
  let v507 := k0_pay58 (F := Ideal) v421
  let v509 := k0_pay59 (F := Ideal) v302 v326 v344 v350 v462 v467 (h2 1 2 2) (h2 1 3 0) (h2 1 3 1) (h2 1 3 2)
  let v521 := k0_pay60 (F := Ideal) s v505
  let v533 := k0_pay61 (F := Ideal) v1 v505
  let v550 := k0_pay62 (F := Ideal) s v1 v503 v507 (constant S16x256 .f32 0x00000000#32) (h3 0 0 0) (h3 0 0 1) (h3 0 0 2)
  let v554 := k0_pay63 (F := Ideal) (h3 0 1 0)
  k0_pay1 (F := Ideal) v509 v521 v533 v550 v554 (h3 0 1 1) (h3 0 1 2)

/-- The first tap of a 16-frame channel. -/
theorem pay60_eq (s : FVec Ideal S256x256 .f32) (x : FVec Ideal S16x256 .f32) :
    frames16 (k0_pay60 (F := Ideal) s x) = step (graph s) (frames16 x) := by
  funext t n
  rw [step16_apply]
  show k0_pay60 (F := Ideal) s x (ix2 t n) = _
  pointwise [k0_pay60]
  rfl

/-- The second tap of a 16-frame channel, from the square of the shift operator. -/
theorem pay61_eq (s : FVec Ideal S256x256 .f32) (x : FVec Ideal S16x256 .f32) :
    frames16 (k0_pay61 (F := Ideal) (k0_pay2 (F := Ideal) s) x) = step2 (graph s) (frames16 x) := by
  funext t n
  rw [step216_apply, ← pay2_eq]
  show k0_pay61 (F := Ideal) _ x (ix2 t n) = _
  generalize k0_pay2 (F := Ideal) s = s2
  pointwise [k0_pay61]
  rfl

/-- The kernel stores the autoencoder of its inputs. -/
theorem stored_eq (x : Vec Ideal S16x256 .f32) (s : FVec Ideal S256x256 .f32)
    (h0 : Fin 2 → Fin 1 → Fin 3 → Ideal .f32) (h1 : Fin 4 → Fin 2 → Fin 3 → Ideal .f32)
    (h2 : Fin 2 → Fin 4 → Fin 3 → Ideal .f32) (h3 : Fin 1 → Fin 2 → Fin 3 → Ideal .f32) :
    frames16 (stored x s h0 h1 h2 h3) = autoencoder (graph s) h0 h1 h2 h3 (frames16 (φ := .f32) x) := by
  unfold stored
  extract_lets v1 v11 v17 v34 v39 v70 v72 v74 v76 v82 v87 v88 v94 v100 v129 v135 v164 v169 v170 v205
    v208 v240 v247 v251 v288 v290 v292 v294 v295 v296 v298 v300 v302 v308 v314 v320 v326 v332 v338
    v344 v346 v347 v350 v385 v421 v426 v462 v467 v503 v505 v507 v509 v521 v533 v550 v554
  set A := graph s with hA
  set X := frames16 (φ := .f32) x with hX
  -- the first layer
  have eX : X = frames16 (φ := .f32) (k0_pay3 (F := Ideal) x) := by rw [pay3_eq]
  have e11 : frames16 v11 = step A X := pay5_eq s x
  have e17 : frames16 v17 = step2 A X := pay6_eq s x
  have e34 : frames16 v34 = conv A h0 (fun _ => X) 0 := by
    funext t n
    rw [conv_one, ← e11, ← e17, eX]
    rfl
  have e70 : frames8 v70 = enc0 A h0 X 0 := by rw [enc0, ← e34]; exact pay10_eq v34
  have e72 : frames8 v72 = enc0 A h0 X 1 := by
    refine (pay11_eq v11 v17 v39 _ _).trans ?_
    rw [enc0]
    congr 2
    funext t n
    rw [conv_one, ← e11, ← e17, eX]
    rfl
  -- its taps
  set z := enc0 A h0 X with hz
  have e74 : frames8 v74 = z 0 := e70
  have e76 : frames8 v76 = z 1 := e72
  have e82 : frames8 v82 = step A (z 0) := by rw [← e70]; exact pay39_eq s v70
  have e88 : frames8 v88 = step A (z 1) := by rw [← e72]; exact pay39_eq s v72
  have e94 : frames8 v94 = step2 A (z 0) := by rw [← e70]; exact pay43_eq s v70
  have e100 : frames8 v100 = step2 A (z 1) := by rw [← e72]; exact pay43_eq s v72
  -- the second layer
  have e135 : frames8 v135 = conv A h1 z 0 := by
    funext t n
    rw [conv_two, ← e82, ← e88, ← e94, ← e100, ← e74, ← e76]
    rfl
  have e170 : frames8 v170 = conv A h1 z 1 := by
    funext t n
    rw [conv_two, ← e82, ← e88, ← e94, ← e100, ← e74, ← e76]
    rfl
  have e205 : frames8 v205 = conv A h1 z 2 := by
    funext t n
    rw [conv_two, ← e82, ← e88, ← e94, ← e100, ← e74, ← e76]
    rfl
  have e240 : frames8 v240 = conv A h1 z 3 := by
    funext t n
    rw [conv_two, ← e82, ← e88, ← e94, ← e100, ← e74, ← e76]
    rfl
  set y : Fin 4 → Frames 8 := fun i => relu (spread rfl (enc1 A h1 z i)) with hy
  have e288 : frames8 v288 = y 0 := by rw [hy]; simp only [enc1]; rw [← e135]; exact pay31_eq v135
  have e290 : frames8 v290 = y 1 := by rw [hy]; simp only [enc1]; rw [← e170]; exact pay31_eq v170
  have e292 : frames8 v292 = y 2 := by rw [hy]; simp only [enc1]; rw [← e205]; exact pay31_eq v205
  have e294 : frames8 v294 = y 3 := by rw [hy]; simp only [enc1]; rw [← e240]; exact pay31_eq v240
  -- its taps
  have e296 : frames8 v296 = y 0 := e288
  have e298 : frames8 v298 = y 1 := e290
  have e300 : frames8 v300 = y 2 := e292
  have e302 : frames8 v302 = y 3 := e294
  have e308 : frames8 v308 = step A (y 0) := by rw [← e288]; exact pay39_eq s v288
  have e314 : frames8 v314 = step A (y 1) := by rw [← e290]; exact pay39_eq s v290
  have e320 : frames8 v320 = step A (y 2) := by rw [← e292]; exact pay39_eq s v292
  have e326 : frames8 v326 = step A (y 3) := by rw [← e294]; exact pay39_eq s v294
  have e332 : frames8 v332 = step2 A (y 0) := by rw [← e288]; exact pay43_eq s v288
  have e338 : frames8 v338 = step2 A (y 1) := by rw [← e290]; exact pay43_eq s v290
  have e344 : frames8 v344 = step2 A (y 2) := by rw [← e292]; exact pay43_eq s v292
  have e350 : frames8 v350 = step2 A (y 3) := by rw [← e294]; exact pay43_eq s v294
  -- the third layer
  have e421 : frames8 v421 = conv A h2 y 0 := by
    funext t n
    rw [conv_four, ← e308, ← e314, ← e320, ← e326, ← e332, ← e338, ← e344, ← e350, ← e296, ← e298,
      ← e300, ← e302]
    rfl
  have e503 : frames16 v503 = relu (spread rfl (dec0 A h2 (enc1 A h1 z) 0)) := by
    rw [dec0, ← hy, ← e421]
    exact pay56_eq v421
  have e505 : frames16 v505 = relu (spread rfl (dec0 A h2 (enc1 A h1 z) 1)) := by
    rw [dec0, ← hy]
    have e : conv A h2 y 1 = frames8 (φ := .f32) fun j => v462 j + v467 j + v344 j * h2 1 2 2
        + v302 j * h2 1 3 0 + v326 j * h2 1 3 1 + v350 j * h2 1 3 2 := by
      funext t n
      rw [conv_four, ← e308, ← e314, ← e320, ← e326, ← e332, ← e338, ← e344, ← e350, ← e296, ← e298,
        ← e300, ← e302]
      rfl
    rw [e]
    exact pay56_eq _
  -- the fourth layer
  set w : Fin 2 → Frames 16 := fun i => relu (spread rfl (dec0 A h2 (enc1 A h1 z) i)) with hw
  have e507 : frames16 v507 = w 0 := e503
  have e509 : frames16 v509 = w 1 := e505
  have e515 : frames16 (k0_pay60 (F := Ideal) s v503) = step A (w 0) := by
    rw [pay60_eq, e503]
  have e527 : frames16 (k0_pay61 (F := Ideal) v1 v503) = step2 A (w 0) := by
    rw [pay61_eq, e503]
  have e521 : frames16 v521 = step A (w 1) := (pay60_eq s v505).trans (by rw [e505])
  have e533 : frames16 v533 = step2 A (w 1) := (pay61_eq s v505).trans (by rw [e505])
  funext t n
  rw [autoencoder, ← hz, dec1, ← hw, conv_two, ← e515, ← e527, ← e521, ← e533, ← e507, ← e509]
  rfl

end Cert.Proof
-- ==== Proof.Flat.lean ====
module

public import proofs.«01_k».proof.Proof.Spec
public import Idealize.ShloMosaic.Lib.Pointwise

/-! The flat order of a signal: all nodes of the first frame, then all nodes of the second, and so
on. A spatio-temporal step is a square matrix in this order. -/

@[expose] public section
noncomputable section
namespace Autoencoder

/-- The place of node `n` of frame `t` in the flat order. -/
def row {T M : ℕ} (h : T * 256 = M) (t : Fin T) (n : Fin 256) : Fin M :=
  ⟨(t : ℕ) * 256 + n, by have := t.2; have := n.2; omega⟩

/-- A sum over the flat order is a sum over the frames and the nodes. -/
theorem sum_row {T M : ℕ} (h : T * 256 = M) (f : Fin M → EReal) :
    ∑ r, f r = ∑ t : Fin T, ∑ n : Fin 256, f (row h t n) := by
  exact Idealize.ShloMosaic.Fin.sum_univ_tiles T 256 h f

/-- `S` moves a signal in the flat order: the row of a frame has the entries of `A` at the columns of
the frame `g t`, and zeros at all other columns. -/
def Moves {T M : ℕ} (h : T * 256 = M) (S : Fin M → Fin M → EReal) (g : Fin T → Fin T) (A : Graph) : Prop :=
  ∀ t n t' j, S (row h t n) (row h t' j) = if t' = g t then A n j else 0

/-- A row of a moving matrix, multiplied into any column, reads one frame only. -/
theorem Moves.sum {T M : ℕ} {h : T * 256 = M} {S : Fin M → Fin M → EReal} {g : Fin T → Fin T}
    {A : Graph} (hS : Moves h S g A) (x : Fin M → EReal) (t : Fin T) (n : Fin 256) :
    ∑ r, S (row h t n) r * x r = ∑ j, A n j * x (row h (g t) j) := by
  rw [sum_row h, Finset.sum_eq_single (g t)]
  · exact Finset.sum_congr rfl fun j _ => by rw [hS, if_pos rfl]
  · intro t' _ ht
    exact Finset.sum_eq_zero fun j _ => by rw [hS, if_neg ht, zero_mul]
  · exact fun hn => absurd (Finset.mem_univ _) hn

/-- The square of a moving matrix moves twice. -/
theorem Moves.square {T M : ℕ} {h : T * 256 = M} {S : Fin M → Fin M → EReal} {g : Fin T → Fin T}
    {A : Graph} (hS : Moves h S g A) :
    Moves h (fun r c => ∑ l, S r l * S l c) (fun t => g (g t)) (twice A) := by
  intro t n t' j
  show ∑ l, S (row h t n) l * S l (row h t' j) = _
  rw [hS.sum (fun l => S l (row h t' j))]
  by_cases ht : t' = g (g t)
  · rw [if_pos ht]
    exact Finset.sum_congr rfl fun l _ => by rw [hS, if_pos ht]
  · rw [if_neg ht]
    exact Finset.sum_eq_zero fun l _ => by rw [hS, if_neg ht, mul_zero]

/-- The convolution in the flat order: each tap is a matrix multiplied into the signal, the matrices
being the identity, the moving matrix and its square. -/
theorem conv_flat {T M I O : ℕ} (h : T * 256 = M) {S E : Fin M → Fin M → EReal} {A : Graph}
    (hS : Moves h S prev A) (hE : ∀ r c, E r c = if r = c then 1 else 0) (x : Fin M → Fin I → EReal)
    (co : Fin O → Fin I → Fin 3 → EReal) (o : Fin O) (t : Fin T) (n : Fin 256) :
    (∑ i, ∑ k : Fin 3,
      (if _ : (k : ℕ) < 1 then ∑ c, E (row h t n) c * x c i
        else if _ : (k : ℕ) - 1 < 1 then ∑ c, S (row h t n) c * x c i
        else ∑ c, (∑ l, S (row h t n) l * S l c) * x c i) * co o i k)
      = conv A co (fun i t n => x (row h t n) i) o t n := by
  refine Finset.sum_congr rfl fun i _ => Finset.sum_congr rfl fun k _ => congrArg (· * _) ?_
  fin_cases k
  · simp [hE, tap]
  · simpa [tap, step] using hS.sum (fun c => x c i) t n
  · simpa [tap, step2] using hS.square.sum (fun c => x c i) t n

end Autoencoder
-- ==== Proof.KernelValue.lean ====
module

public import proofs.«01_k».proof.Proof.Gen.KernelIdeal.Frame
public import Idealize.ShloMosaic.Lib.Pipeline.ValueKit
public import Idealize.ShloMosaic.Lib.Pipeline.ReadBack
public import proofs.«01_k».proof.Proof.KernelLayers
public import proofs.«01_k».proof.Proof.Flat

/-! The array that the kernel leaves: the stored value of the arrays it was given. -/

@[expose] public section
set_option maxRecDepth 16384
noncomputable section
namespace Cert.Proof
open Idealize.ShloMosaic Idealize.ShloMosaic.TcCoe Idealize.SL.Sem Cert.KernelIdeal Cert.KernelIdeal.Gen
open Autoencoder

/-- The coefficients as the kernel loads them, one number at a time. -/
def loaded {O I : ℕ} (X : (⟨3, ![O, I, 3]⟩ : Shape).Idx → Ideal .f32) : Fin O → Fin I → Fin 3 → Ideal .f32 :=
  fun o i k => View.ld (Val := Elt Ideal) (e' := .f32) X
    (Rect.unit (s := ⟨3, ![O, I, 3]⟩) ![o, i, k] ![1, 1, 1] fun d => by
      have := o.2
      have := i.2
      have := k.2
      fin_cases d <;> simp <;> omega)
    (Shape.Idx.first (by change 0 < (⟨3, ![1, 1, 1]⟩ : Shape).numel; decide))

/-- The coefficients in an array, by output channel, input channel and tap. -/
def coeffs {O I : ℕ} (h : (⟨3, ![O, I, 3]⟩ : Shape).Idx → Ideal .f32) : Fin O → Fin I → Fin 3 → Ideal .f32 :=
  fun o i k => h (ix3 o i k)

/-- A load of one number reads the array at the load's offsets. -/
theorem loaded_eq {O I : ℕ} (X : (⟨3, ![O, I, 3]⟩ : Shape).Idx → Ideal .f32) : loaded X = coeffs X := by
  funext o i k
  refine View.ld_unit_apply_of (Val := Elt Ideal) (e := .f32) X _ _ _ _ _ fun d => ?_
  fin_cases d <;> rfl

variable (m : (ℓ : Loc nD τ sig) → Buf (Elt Ideal) ℓ) (c : Dev nD)

/-- The kernel's output array, from the arrays it was given. -/
def output : Vec Ideal S16x256 .f32 :=
  stored (transpose S16x256 [1, 0] (m (c.tc.loc main_arg0)) transposes_S256x16_S16x256_1_0)
    (m (c.tc.loc main_arg1)) (coeffs (m (c.tc.loc main_arg2))) (coeffs (m (c.tc.loc main_arg3)))
    (coeffs (m (c.tc.loc main_arg4))) (coeffs (m (c.tc.loc main_arg5)))

/-- Every window's one block starts at the origin of its array. -/
theorem idx : ∀ t : Fin cfg0.N, win0_0.index t = ![0, 0] ∧ win0_1.index t = ![0, 0] ∧
    win0_2.index t = ![0, 0, 0] ∧ win0_3.index t = ![0, 0, 0] ∧ win0_4.index t = ![0, 0, 0] ∧
    win0_5.index t = ![0, 0, 0] ∧ win0_6.index t = ![0, 0] :=
  (by decide +kernel : ∀ t : Fin grid0.N, _)

/-- The block of the signal is the transpose of the signal's array. -/
theorem block0 (t : Fin cfg0.N) : iblk m c 0 t =
    transpose S16x256 [1, 0] (m (c.tc.loc main_arg0)) transposes_S256x16_S16x256_1_0 := by
  blk_ext! [iblk, idx t]

/-- The block of the graph operator is its array. -/
theorem block1 (t : Fin cfg0.N) : iblk m c 1 t = m (c.tc.loc main_arg1) := by
  blk_ext! [iblk, V, idx t]

/-- The block of the first layer's coefficients is their array. -/
theorem block2 (t : Fin cfg0.N) : iblk m c 2 t = m (c.tc.loc main_arg2) := by
  blk_ext! [iblk, V, idx t]

/-- The block of the second layer's coefficients is their array. -/
theorem block3 (t : Fin cfg0.N) : iblk m c 3 t = m (c.tc.loc main_arg3) := by
  blk_ext! [iblk, V, idx t]

/-- The block of the third layer's coefficients is their array. -/
theorem block4 (t : Fin cfg0.N) : iblk m c 4 t = m (c.tc.loc main_arg4) := by
  blk_ext! [iblk, V, idx t]

/-- The block of the fourth layer's coefficients is their array. -/
theorem block5 (t : Fin cfg0.N) : iblk m c 5 t = m (c.tc.loc main_arg5) := by
  blk_ext! [iblk, V, idx t]

set_option maxHeartbeats 2000000 in
/-- After the region the output array holds this value. -/
theorem output_eq : (dats m 0 c).arrAt 6 (cfgs 0).N = output m c := by
  refine (dats m 0 c).arrAt_eq_of_after_last 6 t0_0 (by decide +kernel) _ fun j => ?_
  blk_simp
  rw [after0_6]
  unfold outsAt0
  frame_out
  simp only [read_unread_whole]
  rw [block0, block1, block2, block3, block4, block5, output, ← loaded_eq, ← loaded_eq, ← loaded_eq, ← loaded_eq]
  refine congrFun ?_ j
  dsimp only [stored, loaded]
  rfl

/-- The program's result is the output array, its frames one after another. -/
theorem result_main : Pipeline.afterTail₀ cfgs (dats m) 0 (V0 m) [hostOps1] c main_v0
    = shapeCast S4096x1 (output m c) shapeCasts_S16x256_S4096x1 := by
  unfold Pipeline.afterTail₀
  refine Eq.trans ?_ (congrArg (fun v => shapeCast S4096x1 v shapeCasts_S16x256_S4096x1)
    ((Pipeline.withArrays_arr spec0 launch0.win.arr_inj c (V0 m c)
      (fun w => (dats m 0 c).arrAt w (cfgs 0).N) 6).trans (output_eq m c)))
  after_results
  rfl

/-- The kernel's result at node `n` of frame `t` is the autoencoder's. -/
theorem result_main_apply (t : Fin 16) (n : Fin 256) :
    shapeCast S4096x1 (output m c) shapeCasts_S16x256_S4096x1 (ix2 (row rfl t n) 0)
      = autoencoder (graph (m (c.tc.loc main_arg1))) (coeffs (m (c.tc.loc main_arg2)))
          (coeffs (m (c.tc.loc main_arg3))) (coeffs (m (c.tc.loc main_arg4)))
          (coeffs (m (c.tc.loc main_arg5))) (fun t n => m (c.tc.loc main_arg0) (ix2 n t)) t n := by
  have h : shapeCast S4096x1 (output m c) shapeCasts_S16x256_S4096x1 (ix2 (row rfl t n) 0)
      = frames16 (φ := .f32) (output m c) t n := by
    pointwise
    refine congrArg (output m c) (funext fun d => Fin.ext ?_)
    have := n.2
    fin_cases d
    · show ((t : ℕ) * 256 + n) / 256 = t
      omega
    · show ((t : ℕ) * 256 + n) % 256 = n
      omega
  have x : frames16 (φ := .f32)
      (transpose S16x256 [1, 0] (m (c.tc.loc main_arg0)) transposes_S256x16_S16x256_1_0)
        = fun t n => m (c.tc.loc main_arg0) (ix2 n t) := by
    funext t n
    unfold frames16
    pointwise
  rw [h, output, stored_eq, x]

end Cert.Proof
-- ==== Proof.ReferenceOps.lean ====
module

public import proofs.«01_k».proof.Defs
public import proofs.«01_k».proof.Proof.Gen.ReferenceIdeal.Run
public import Idealize.ShloMosaic.Lib.Pointwise
public import Idealize.ShloMosaic.Lib.IdealHost
public import Idealize.ShloMosaic.Lib.WordCmp
public import Idealize.ShloMosaic.Lib.Tactic.CleanTypes
public import proofs.«01_k».proof.Proof.Flat

/-! The stages of the reference, each as one operation on arrays in the flat order, and what each
computes on frames: a convolution by matrices, a pooling, a spreading, the matrix of a step. -/

@[expose] public section
set_option maxRecDepth 16384
noncomputable section
namespace Cert.Proof
open Idealize.ShloMosaic Idealize.ShloMosaic.TcCoe Cert.ReferenceIdeal Cert.ReferenceIdeal.Gen
open Cert.ReferenceIdeal.Value Autoencoder

/-- The identity matrix that the reference forms by comparing a row number with a column number. -/
theorem eye_apply {M : ℕ} (hM : M ≤ 4096) (r c : Fin M) :
    FloatOps.uitofp (F := Ideal) .f32
      (IntOp.cmpi .eq (IntOp.addi (BitVec.ofNat 32 r) 0#32) (BitVec.ofNat 32 c)) = if r = c then (1 : EReal) else 0 := by
  have h0 : IntOp.addi (BitVec.ofNat 32 r) 0#32 = BitVec.ofNat 32 r := BitVec.add_zero _
  have hr := r.2
  have hc := c.2
  rw [h0, WordCmp.cmpi_eq_ofNat (by omega) (by omega)]
  by_cases h : r = c
  · subst h
    rw [if_pos rfl, decide_eq_true rfl]
    show ((BitVec.toNat (BitVec.ofBool true) : ℝ) : EReal) = 1
    simp
  · rw [if_neg h, decide_eq_false (fun e => h (Fin.ext e))]
    show ((BitVec.toNat (BitVec.ofBool false) : ℝ) : EReal) = 0
    simp

/-- The word of minus infinity, as a number. -/
theorem ofBits_bot : Ideal.ofBits .f32 0xFF800000#32 = (⊥ : EReal) := by simp [Ideal.ofBits, Ideal.ieee]

/-- The largest of two numbers and minus infinity. -/
theorem fold_max_two (f : Fin 2 → EReal) :
    Finset.univ.fold max (Ideal.ofBits .f32 0xFF800000#32) f = max (f 0) (f 1) := by
  have h : (Finset.univ : Finset (Fin 2)) = {0, 1} := rfl
  rw [h, Finset.fold_insert (by decide), Finset.fold_singleton, ofBits_bot, max_bot_right]

/-! ### Convolutions -/

/-- The convolution of 1 channel of 16 frames into 2, by the matrix of a step. -/
def convRef0 (S : FVec Ideal S4096x4096 .f32) (x : FVec Ideal S4096x1 .f32)
    (h : FVec Ideal S2x1x3 .f32) : FVec Ideal S4096x2 .f32 :=
  Host.dotGeneral dot_S3x4096x1_S2x1x3_S4096x2_20_12_1_0_n_n none
    (concatenate S3x4096x1 0 [
      ⟨S1x4096x1, broadcastInDim S1x4096x1 ![1, 2] bcast_S4096x1_S1x4096x1_1_2
        (Host.dotGeneral dot_S4096x4096_S4096x1_S4096x1_1_0_0_1_n_n none
          (uitofp .f32 (cmpi .eq
            (addi (iotaInDim S4096x4096 32 0)
              (broadcastInDim S4096x4096 ![] bcast_S_S4096x4096 (constantI S_ 32 0#32)))
            (iotaInDim S4096x4096 32 1))) x)⟩,
      ⟨S1x4096x1, broadcastInDim S1x4096x1 ![1, 2] bcast_S4096x1_S1x4096x1_1_2
        (Host.dotGeneral dot_S4096x4096_S4096x1_S4096x1_1_0_0_1_n_n none S x)⟩,
      ⟨S1x4096x1, broadcastInDim S1x4096x1 ![1, 2] bcast_S4096x1_S1x4096x1_1_2
        (Host.dotGeneral dot_S4096x4096_S4096x1_S4096x1_1_0_0_1_n_n none
          (Host.dotGeneral dot_S4096x4096_S4096x4096_S4096x4096_1_0_0_1_n_n none S S) x)⟩]
      concatenates_S1x4096x1_S1x4096x1_S1x4096x1_S3x4096x1_d0) h

/-- This convolution is the graph convolution of the frames. -/
theorem convRef0_eq (A : Graph) (S : FVec Ideal S4096x4096 .f32) (x : FVec Ideal S4096x1 .f32)
    (h : FVec Ideal S2x1x3 .f32) (hS : Moves (T := 16) rfl (fun r c => S (ix2 r c)) prev A)
    (o : Fin 2) (t : Fin 16) (n : Fin 256) :
    convRef0 S x h (ix2 (row rfl t n) o)
      = conv A (fun o i k => h (ix3 o i k)) (fun i t n => x (ix2 (row rfl t n) i)) o t n := by
  rw [← conv_flat (M := 4096) rfl hS (eye_apply (by decide)) (fun r i => x (ix2 r i))]
  pointwise [convRef0]
  refine Finset.sum_congr rfl fun i _ => ?_
  obtain rfl : i = 0 := Subsingleton.elim _ _
  rfl

/-- The convolution of 2 channels of 8 frames into 4, by the matrix of a step. -/
def convRef1 (S : FVec Ideal S2048x2048 .f32) (x : FVec Ideal S2048x2 .f32)
    (h : FVec Ideal S4x2x3 .f32) : FVec Ideal S2048x4 .f32 :=
  Host.dotGeneral dot_S3x2048x2_S4x2x3_S2048x4_20_12_1_0_n_n none
    (concatenate S3x2048x2 0 [
      ⟨S1x2048x2, broadcastInDim S1x2048x2 ![1, 2] bcast_S2048x2_S1x2048x2_1_2
        (Host.dotGeneral dot_S2048x2048_S2048x2_S2048x2_1_0_0_1_n_n none
          (uitofp .f32 (cmpi .eq
            (addi (iotaInDim S2048x2048 32 0)
              (broadcastInDim S2048x2048 ![] bcast_S_S2048x2048 (constantI S_ 32 0#32)))
            (iotaInDim S2048x2048 32 1))) x)⟩,
      ⟨S1x2048x2, broadcastInDim S1x2048x2 ![1, 2] bcast_S2048x2_S1x2048x2_1_2
        (Host.dotGeneral dot_S2048x2048_S2048x2_S2048x2_1_0_0_1_n_n none S x)⟩,
      ⟨S1x2048x2, broadcastInDim S1x2048x2 ![1, 2] bcast_S2048x2_S1x2048x2_1_2
        (Host.dotGeneral dot_S2048x2048_S2048x2_S2048x2_1_0_0_1_n_n none
          (Host.dotGeneral dot_S2048x2048_S2048x2048_S2048x2048_1_0_0_1_n_n none S S) x)⟩]
      concatenates_S1x2048x2_S1x2048x2_S1x2048x2_S3x2048x2_d0) h

/-- This convolution is the graph convolution of the frames. -/
theorem convRef1_eq (A : Graph) (S : FVec Ideal S2048x2048 .f32) (x : FVec Ideal S2048x2 .f32)
    (h : FVec Ideal S4x2x3 .f32) (hS : Moves (T := 8) rfl (fun r c => S (ix2 r c)) prev A)
    (o : Fin 4) (t : Fin 8) (n : Fin 256) :
    convRef1 S x h (ix2 (row rfl t n) o)
      = conv A (fun o i k => h (ix3 o i k)) (fun i t n => x (ix2 (row rfl t n) i)) o t n := by
  rw [← conv_flat (M := 2048) rfl hS (eye_apply (by decide)) (fun r i => x (ix2 r i))]
  pointwise [convRef1]

/-- The convolution of 4 channels of 8 frames into 2, by the matrix of a step. -/
def convRef2 (S : FVec Ideal S2048x2048 .f32) (x : FVec Ideal S2048x4 .f32)
    (h : FVec Ideal S2x4x3 .f32) : FVec Ideal S2048x2 .f32 :=
  Host.dotGeneral dot_S3x2048x4_S2x4x3_S2048x2_20_12_1_0_n_n none
    (concatenate S3x2048x4 0 [
      ⟨S1x2048x4, broadcastInDim S1x2048x4 ![1, 2] bcast_S2048x4_S1x2048x4_1_2
        (Host.dotGeneral dot_S2048x2048_S2048x4_S2048x4_1_0_0_1_n_n none
          (uitofp .f32 (cmpi .eq
            (addi (iotaInDim S2048x2048 32 0)
              (broadcastInDim S2048x2048 ![] bcast_S_S2048x2048 (constantI S_ 32 0#32)))
            (iotaInDim S2048x2048 32 1))) x)⟩,
      ⟨S1x2048x4, broadcastInDim S1x2048x4 ![1, 2] bcast_S2048x4_S1x2048x4_1_2
        (Host.dotGeneral dot_S2048x2048_S2048x4_S2048x4_1_0_0_1_n_n none S x)⟩,
      ⟨S1x2048x4, broadcastInDim S1x2048x4 ![1, 2] bcast_S2048x4_S1x2048x4_1_2
        (Host.dotGeneral dot_S2048x2048_S2048x4_S2048x4_1_0_0_1_n_n none
          (Host.dotGeneral dot_S2048x2048_S2048x2048_S2048x2048_1_0_0_1_n_n none S S) x)⟩]
      concatenates_S1x2048x4_S1x2048x4_S1x2048x4_S3x2048x4_d0) h

/-- This convolution is the graph convolution of the frames. -/
theorem convRef2_eq (A : Graph) (S : FVec Ideal S2048x2048 .f32) (x : FVec Ideal S2048x4 .f32)
    (h : FVec Ideal S2x4x3 .f32) (hS : Moves (T := 8) rfl (fun r c => S (ix2 r c)) prev A)
    (o : Fin 2) (t : Fin 8) (n : Fin 256) :
    convRef2 S x h (ix2 (row rfl t n) o)
      = conv A (fun o i k => h (ix3 o i k)) (fun i t n => x (ix2 (row rfl t n) i)) o t n := by
  rw [← conv_flat (M := 2048) rfl hS (eye_apply (by decide)) (fun r i => x (ix2 r i))]
  pointwise [convRef2]

/-- The convolution of 2 channels of 16 frames into 1, by the matrix of a step. -/
def convRef3 (S : FVec Ideal S4096x4096 .f32) (x : FVec Ideal S4096x2 .f32)
    (h : FVec Ideal S1x2x3 .f32) : FVec Ideal S4096x1 .f32 :=
  Host.dotGeneral dot_S3x4096x2_S1x2x3_S4096x1_20_12_1_0_n_n none
    (concatenate S3x4096x2 0 [
      ⟨S1x4096x2, broadcastInDim S1x4096x2 ![1, 2] bcast_S4096x2_S1x4096x2_1_2
        (Host.dotGeneral dot_S4096x4096_S4096x2_S4096x2_1_0_0_1_n_n none
          (uitofp .f32 (cmpi .eq
            (addi (iotaInDim S4096x4096 32 0)
              (broadcastInDim S4096x4096 ![] bcast_S_S4096x4096 (constantI S_ 32 0#32)))
            (iotaInDim S4096x4096 32 1))) x)⟩,
      ⟨S1x4096x2, broadcastInDim S1x4096x2 ![1, 2] bcast_S4096x2_S1x4096x2_1_2
        (Host.dotGeneral dot_S4096x4096_S4096x2_S4096x2_1_0_0_1_n_n none S x)⟩,
      ⟨S1x4096x2, broadcastInDim S1x4096x2 ![1, 2] bcast_S4096x2_S1x4096x2_1_2
        (Host.dotGeneral dot_S4096x4096_S4096x2_S4096x2_1_0_0_1_n_n none
          (Host.dotGeneral dot_S4096x4096_S4096x4096_S4096x4096_1_0_0_1_n_n none S S) x)⟩]
      concatenates_S1x4096x2_S1x4096x2_S1x4096x2_S3x4096x2_d0) h

/-- This convolution is the graph convolution of the frames. -/
theorem convRef3_eq (A : Graph) (S : FVec Ideal S4096x4096 .f32) (x : FVec Ideal S4096x2 .f32)
    (h : FVec Ideal S1x2x3 .f32) (hS : Moves (T := 16) rfl (fun r c => S (ix2 r c)) prev A)
    (o : Fin 1) (t : Fin 16) (n : Fin 256) :
    convRef3 S x h (ix2 (row rfl t n) o)
      = conv A (fun o i k => h (ix3 o i k)) (fun i t n => x (ix2 (row rfl t n) i)) o t n := by
  rw [← conv_flat (M := 4096) rfl hS (eye_apply (by decide)) (fun r i => x (ix2 r i))]
  pointwise [convRef3]

/-! ### Pooling and spreading -/

/-- The place of node `n` of frame `2 t + k`, counted in pairs of frames. -/
theorem row_pair {T U M : ℕ} (hT : 2 * T = U) (hM : U * 256 = M) (t : Fin T) (k : Fin 2) (n : Fin 256)
    (h : (t : ℕ) * 512 + (k : ℕ) * 256 + n < M) :
    (⟨(t : ℕ) * 512 + (k : ℕ) * 256 + n, h⟩ : Fin M) = row hM (T := U) ⟨2 * t + k, by omega⟩ n :=
  Fin.ext (by simp only [row]; omega)

/-- The pooling of 2 channels of 16 frames, cut off at zero. -/
def poolRef0 (v : FVec Ideal S4096x2 .f32) : FVec Ideal S2048x2 .f32 :=
  maximumf (shapeCast _ (Host.reduce FloatOps.maximumf
      (shapeCast _ (shapeCast _ v shapeCasts_S4096x2_S16x256x2) shapeCasts_S16x256x2_S8x2x256x2)
      (constant S_ .f32 0xFF800000#32) reducesTo_S8x2x256x2_S8x256x2_d1 h_S_)
    shapeCasts_S8x256x2_S2048x2)
    (broadcastInDim S2048x2 ![] bcast_S_S2048x2 (constant S_ .f32 0x00000000#32))

/-- This pooling takes the larger number of each pair of frames. -/
theorem poolRef0_eq (v : FVec Ideal S4096x2 .f32) (i : Fin 2) (t : Fin 8) (n : Fin 256) :
    poolRef0 v (ix2 (row rfl t n) i) = relu (pool (T := 8) rfl fun t n => v (ix2 (row rfl t n) i)) t n := by
  show poolRef0 v (ix2 ⟨(t : ℕ) * 256 + n, _⟩ i) = _
  pointwise [poolRef0]
  rw [fold_max_two]
  simp only [row_pair rfl rfl]
  rfl

/-- The pooling of 4 channels of 8 frames, cut off at zero. -/
def poolRef1 (v : FVec Ideal S2048x4 .f32) : FVec Ideal S1024x4 .f32 :=
  maximumf (shapeCast _ (Host.reduce FloatOps.maximumf
      (shapeCast _ (shapeCast _ v shapeCasts_S2048x4_S8x256x4) shapeCasts_S8x256x4_S4x2x256x4)
      (constant S_ .f32 0xFF800000#32) reducesTo_S4x2x256x4_S4x256x4_d1 h_S_)
    shapeCasts_S4x256x4_S1024x4)
    (broadcastInDim S1024x4 ![] bcast_S_S1024x4 (constant S_ .f32 0x00000000#32))

/-- This pooling takes the larger number of each pair of frames. -/
theorem poolRef1_eq (v : FVec Ideal S2048x4 .f32) (i : Fin 4) (t : Fin 4) (n : Fin 256) :
    poolRef1 v (ix2 (row rfl t n) i) = relu (pool (T := 4) rfl fun t n => v (ix2 (row rfl t n) i)) t n := by
  show poolRef1 v (ix2 ⟨(t : ℕ) * 256 + n, _⟩ i) = _
  pointwise [poolRef1]
  rw [fold_max_two]
  simp only [row_pair rfl rfl]
  rfl

/-- The spreading of 4 channels of 4 frames to 8, cut off at zero. -/
def upRef0 (v : FVec Ideal S1024x4 .f32) : FVec Ideal S2048x4 .f32 :=
  maximumf (shapeCast _ (concatenate S4x2x256x4 1 [
      ⟨S4x1x256x4, broadcastInDim S4x1x256x4 ![0, 2, 3] bcast_S4x256x4_S4x1x256x4_0_2_3
        (shapeCast _ v shapeCasts_S1024x4_S4x256x4)⟩,
      ⟨S4x1x256x4, broadcastInDim S4x1x256x4 ![0, 2, 3] bcast_S4x256x4_S4x1x256x4_0_2_3
        (broadcastInDim S4x256x4 ![] bcast_S_S4x256x4 (constant S_ .f32 0x00000000#32))⟩]
      concatenates_S4x1x256x4_S4x1x256x4_S4x2x256x4_d1) shapeCasts_S4x2x256x4_S2048x4)
    (broadcastInDim S2048x4 ![] bcast_S_S2048x4 (constant S_ .f32 0x00000000#32))

/-- This spreading puts a frame of zeros after each frame. -/
theorem upRef0_eq (v : FVec Ideal S1024x4 .f32) (i : Fin 4) (t : Fin 8) (n : Fin 256) :
    upRef0 v (ix2 (row rfl t n) i) = relu (spread (T := 4) rfl fun t n => v (ix2 (row rfl t n) i)) t n := by
  show upRef0 v (ix2 ⟨(t : ℕ) * 256 + n, _⟩ i)
    = max (if _ : (t : ℕ) % 2 = 0 then v (ix2 ⟨(t : ℕ) / 2 * 256 + n, _⟩ i) else 0) 0
  pointwise [upRef0]
  have e : ((t : ℕ) * 256 + n) / 512 = (t : ℕ) / 2 := by omega
  have e' : ((t : ℕ) * 256 + n) / 256 % 2 < 1 ↔ (t : ℕ) % 2 = 0 := by omega
  simp only [e, e']

/-- The spreading of 2 channels of 8 frames to 16, cut off at zero. -/
def upRef1 (v : FVec Ideal S2048x2 .f32) : FVec Ideal S4096x2 .f32 :=
  maximumf (shapeCast _ (concatenate S8x2x256x2 1 [
      ⟨S8x1x256x2, broadcastInDim S8x1x256x2 ![0, 2, 3] bcast_S8x256x2_S8x1x256x2_0_2_3
        (shapeCast _ v shapeCasts_S2048x2_S8x256x2)⟩,
      ⟨S8x1x256x2, broadcastInDim S8x1x256x2 ![0, 2, 3] bcast_S8x256x2_S8x1x256x2_0_2_3
        (broadcastInDim S8x256x2 ![] bcast_S_S8x256x2 (constant S_ .f32 0x00000000#32))⟩]
      concatenates_S8x1x256x2_S8x1x256x2_S8x2x256x2_d1) shapeCasts_S8x2x256x2_S4096x2)
    (broadcastInDim S4096x2 ![] bcast_S_S4096x2 (constant S_ .f32 0x00000000#32))

/-- This spreading puts a frame of zeros after each frame. -/
theorem upRef1_eq (v : FVec Ideal S2048x2 .f32) (i : Fin 2) (t : Fin 16) (n : Fin 256) :
    upRef1 v (ix2 (row rfl t n) i) = relu (spread (T := 8) rfl fun t n => v (ix2 (row rfl t n) i)) t n := by
  show upRef1 v (ix2 ⟨(t : ℕ) * 256 + n, _⟩ i)
    = max (if _ : (t : ℕ) % 2 = 0 then v (ix2 ⟨(t : ℕ) / 2 * 256 + n, _⟩ i) else 0) 0
  pointwise [upRef1]
  have e : ((t : ℕ) * 256 + n) / 512 = (t : ℕ) / 2 := by omega
  have e' : ((t : ℕ) * 256 + n) / 256 % 2 < 1 ↔ (t : ℕ) % 2 = 0 := by omega
  simp only [e, e']

/-! ### The matrices of a step -/

/-- Table 0 has a one where the column is the frame before the row. -/
theorem lit0_apply : ∀ a b : Fin 16,
    lit0 (S16x16.rowMajor (ix2 a b)) = if b = prev a then 0x3F800000#32 else 0#32 := by
  decide +kernel

/-- The matrix formed from table 0 moves a signal of 16 frames by one spatio-temporal step. -/
theorem main_v2_moves (V0 : Valuation τ sig (Elt Ideal)) :
    Moves (T := 16) rfl (fun r c => res_main_v2 (F := Ideal) V0 (ix2 r c)) prev
      (fun n j => V0 (Proc.devRef .tc main_arg1) (ix2 n j)) := by
  intro t n t' j
  show res_main_v2 (F := Ideal) V0 (ix2 (⟨(t : ℕ) * 256 + n, _⟩ : Fin 4096) (⟨(t' : ℕ) * 256 + j, _⟩ : Fin 4096)) = _
  unfold res_main_v2
  clean_types
  pointwise
  rw [lit0_apply]
  split
  · rw [Ideal.ofBits_one_f32, one_mul]
  · rw [Ideal.ofBits_zero, zero_mul]

/-- Table 1 has a one where the column is the frame before the row. -/
theorem lit1_apply : ∀ a b : Fin 8,
    lit1 (S8x8.rowMajor (ix2 a b)) = if b = prev a then 0x3F800000#32 else 0#32 := by
  decide +kernel

/-- The matrix formed from table 1 moves a signal of 8 frames by one spatio-temporal step. -/
theorem main_v23_moves (V0 : Valuation τ sig (Elt Ideal)) :
    Moves (T := 8) rfl (fun r c => res_main_v23 (F := Ideal) V0 (ix2 r c)) prev
      (fun n j => V0 (Proc.devRef .tc main_arg1) (ix2 n j)) := by
  intro t n t' j
  show res_main_v23 (F := Ideal) V0 (ix2 (⟨(t : ℕ) * 256 + n, _⟩ : Fin 2048) (⟨(t' : ℕ) * 256 + j, _⟩ : Fin 2048)) = _
  unfold res_main_v23
  clean_types
  pointwise
  rw [lit1_apply]
  split
  · rw [Ideal.ofBits_one_f32, one_mul]
  · rw [Ideal.ofBits_zero, zero_mul]

/-- Table 2 is table 1. -/
theorem lit2_eq : lit2 = lit1 := funext (by decide +kernel)

/-- Table 3 is table 0. -/
theorem lit3_eq : lit3 = lit0 := funext (by decide +kernel)

/-- The third layer's matrix is the second layer's. -/
theorem main_v51_moves (V0 : Valuation τ sig (Elt Ideal)) :
    Moves (T := 8) rfl (fun r c => res_main_v51 (F := Ideal) V0 (ix2 r c)) prev
      (fun n j => V0 (Proc.devRef .tc main_arg1) (ix2 n j)) := by
  have h := main_v23_moves V0
  unfold res_main_v23 at h
  unfold res_main_v51
  rwa [lit2_eq]

/-- The fourth layer's matrix is the first layer's. -/
theorem main_v74_moves (V0 : Valuation τ sig (Elt Ideal)) :
    Moves (T := 16) rfl (fun r c => res_main_v74 (F := Ideal) V0 (ix2 r c)) prev
      (fun n j => V0 (Proc.devRef .tc main_arg1) (ix2 n j)) := by
  have h := main_v2_moves V0
  unfold res_main_v2 at h
  unfold res_main_v74
  rwa [lit3_eq]

end Cert.Proof
-- ==== Proof.ReferenceValue.lean ====
module

public import proofs.«01_k».proof.Proof.ReferenceOps

/-! The reference's result, read at node `n` of frame `t`: the autoencoder of the arguments. -/

@[expose] public section
set_option maxRecDepth 16384
noncomputable section
namespace Cert.Proof
open Idealize.ShloMosaic Idealize.ShloMosaic.TcCoe Cert.ReferenceIdeal Cert.ReferenceIdeal.Gen
open Cert.ReferenceIdeal.Value Autoencoder

/-- An array of filter coefficients as a function of output channel, input channel and tap. -/
def taps {O I : ℕ} (h : (⟨3, ![O, I, 3]⟩ : Shape).Idx → EReal) : Fin O → Fin I → Fin 3 → EReal :=
  fun o i k => h (ix3 o i k)

/-- The signal, given node by node, as frames. -/
def signal (x : (⟨2, ![256, 16]⟩ : Shape).Idx → EReal) : Frames 16 := fun t n => x (ix2 n t)

/-- The shift operator as a graph. -/
def operator (s : (⟨2, ![256, 256]⟩ : Shape).Idx → EReal) : Graph := fun n j => s (ix2 n j)

variable (V0 : Valuation τ sig (Elt Ideal))

/-- The input column holds the signal in the flat order. -/
theorem main_v1_eq (i : Fin 1) (t : Fin 16) (n : Fin 256) :
    res_main_v1 (F := Ideal) V0 (ix2 (row rfl t n) i) = signal (V0 (Proc.devRef .tc main_arg0)) t n := by
  show res_main_v1 (F := Ideal) V0 (ix2 (⟨(t : ℕ) * 256 + n, _⟩ : Fin 4096) i) = V0 (Proc.devRef .tc main_arg0) (ix2 n t)
  unfold res_main_v1
  clean_types
  pointwise

/-- After the first layer the reference holds its two channels. -/
theorem main_v22_eq (o : Fin 2) (t : Fin 8) (n : Fin 256) :
    res_main_v22 (F := Ideal) V0 (ix2 (row rfl t n) o)
      = enc0 (operator (V0 (Proc.devRef .tc main_arg1))) (taps (V0 (Proc.devRef .tc main_arg2)))
          (signal (V0 (Proc.devRef .tc main_arg0))) o t n := by
  have h : res_main_v22 (F := Ideal) V0 = poolRef0 (convRef0 (res_main_v2 (F := Ideal) V0)
      (res_main_v1 (F := Ideal) V0) (V0 (Proc.devRef .tc main_arg2))) := rfl
  rw [h, poolRef0_eq, enc0]
  simp only [convRef0_eq _ _ _ _ (main_v2_moves V0), main_v1_eq]
  rfl

/-- After the second layer and the spreading the reference holds the four channels that the third
layer reads. -/
theorem main_v50_eq (o : Fin 4) (t : Fin 8) (n : Fin 256) :
    res_main_v50 (F := Ideal) V0 (ix2 (row rfl t n) o)
      = relu (spread (T := 4) rfl (enc1 (operator (V0 (Proc.devRef .tc main_arg1)))
          (taps (V0 (Proc.devRef .tc main_arg3)))
          (enc0 (operator (V0 (Proc.devRef .tc main_arg1))) (taps (V0 (Proc.devRef .tc main_arg2)))
            (signal (V0 (Proc.devRef .tc main_arg0)))) o)) t n := by
  have h : res_main_v50 (F := Ideal) V0 = upRef0 (poolRef1 (convRef1 (res_main_v23 (F := Ideal) V0)
      (res_main_v22 (F := Ideal) V0) (V0 (Proc.devRef .tc main_arg3)))) := rfl
  rw [h, upRef0_eq]
  simp only [poolRef1_eq, convRef1_eq _ _ _ _ (main_v23_moves V0), main_v22_eq]
  rfl

/-- After the third layer and the spreading the reference holds the two channels that the fourth
layer reads. -/
theorem main_v73_eq (o : Fin 2) (t : Fin 16) (n : Fin 256) :
    res_main_v73 (F := Ideal) V0 (ix2 (row rfl t n) o)
      = relu (spread (T := 8) rfl (dec0 (operator (V0 (Proc.devRef .tc main_arg1)))
          (taps (V0 (Proc.devRef .tc main_arg4)))
          (enc1 (operator (V0 (Proc.devRef .tc main_arg1))) (taps (V0 (Proc.devRef .tc main_arg3)))
            (enc0 (operator (V0 (Proc.devRef .tc main_arg1))) (taps (V0 (Proc.devRef .tc main_arg2)))
              (signal (V0 (Proc.devRef .tc main_arg0))))) o)) t n := by
  have h : res_main_v73 (F := Ideal) V0 = upRef1 (convRef2 (res_main_v51 (F := Ideal) V0)
      (res_main_v50 (F := Ideal) V0) (V0 (Proc.devRef .tc main_arg4))) := rfl
  rw [h, upRef1_eq]
  simp only [convRef2_eq _ _ _ _ (main_v51_moves V0), main_v50_eq]
  rfl

/-- The reference's result at node `n` of frame `t` is the autoencoder's. -/
theorem result_eq (t : Fin 16) (n : Fin 256) :
    convRef3 (res_main_v74 (F := Ideal) V0) (res_main_v73 (F := Ideal) V0) (V0 (Proc.devRef .tc main_arg5))
        (ix2 (row rfl t n) 0)
      = autoencoder (operator (V0 (Proc.devRef .tc main_arg1))) (taps (V0 (Proc.devRef .tc main_arg2)))
          (taps (V0 (Proc.devRef .tc main_arg3))) (taps (V0 (Proc.devRef .tc main_arg4)))
          (taps (V0 (Proc.devRef .tc main_arg5))) (signal (V0 (Proc.devRef .tc main_arg0))) t n := by
  rw [convRef3_eq _ _ _ _ (main_v74_moves V0)]
  simp only [main_v73_eq]
  rfl

end Cert.Proof
-- ==== Proof.Equation.lean ====
module

public import proofs.«01_k».proof.Defs
public import proofs.«01_k».proof.Proof.Gen.Kernel
public import proofs.«01_k».proof.Proof.Gen.ReferenceIdeal.Run
public import Idealize.ShloMosaic.Lib.Claim
public import proofs.«01_k».proof.Proof.KernelValue
public import proofs.«01_k».proof.Proof.ReferenceValue

/-! The kernel and the reference, given the same arrays, leave the same result. -/

@[expose] public section
noncomputable section
namespace Cert.Proof
open Idealize.ShloMosaic Idealize.ShloMosaic.TcCoe Idealize.SL.Sem Autoencoder

/-- An index of the result array is a node of a frame. -/
theorem result_index (j : (⟨2, ![4096, 1]⟩ : Shape).Idx) :
    ∃ (t : Fin 16) (n : Fin 256), j = ix2 (row rfl t n) 0 := by
  have h0 : (j 0 : ℕ) < 4096 := (j 0).2
  have h1 : (j 1 : ℕ) < 1 := (j 1).2
  refine ⟨⟨(j 0 : ℕ) / 256, by omega⟩, ⟨(j 0 : ℕ) % 256, Nat.mod_lt _ (by decide)⟩, funext fun d => Fin.ext ?_⟩
  fin_cases d
  · show (j 0 : ℕ) = (j 0 : ℕ) / 256 * 256 + (j 0 : ℕ) % 256
    omega
  · show (j 1 : ℕ) = 0
    omega

/-- The kernel's result and the reference's are one array. -/
theorem equation : Cert.algebraic_KernelIdeal_ReferenceIdeal
    (hKernelIdeal := Cert.KernelIdeal.Gen.facts) (hReferenceIdeal := Cert.ReferenceIdeal.Gen.facts) := by
  pair_intro
  · run_from Cert.KernelIdeal.Gen.run_main m g
    exact Cert.KernelIdeal.Gen.W_main_arg0 m _ c
  · run_from Cert.ReferenceIdeal.Value.run m' g'
    rw [result_main m c]
    funext j
    obtain ⟨t, n, rfl⟩ := result_index j
    refine Eq.trans ?_ (result_main_apply m c t n).symm
    obtain ⟨e0, e1, e2, e3, e4, e5⟩ := hagree c
    refine Eq.trans ?_ ((result_eq (StableHlo.launchContents m' c) t n).trans ?_)
    · rw [← e5]
      rfl
    · simp only [StableHlo.launchContents_devRef, e0, e1, e2, e3, e4, e5]
      rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged and, having no semaphore, ends with every counter at zero. -/
theorem reference_frame : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- Every claim of this certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame,
    trivial, equation⟩

end Cert.Proof

end
